-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S64x2048 : Shape := ⟨2, ![64, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S32768x2048 .f32) (main_arg1 : FVec F S64x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S32768x2048 : Shape := ⟨2, ![32768, 2048]⟩
abbrev S64x2048 : Shape := ⟨2, ![64, 2048]⟩
abbrev S32768x8 : Shape := ⟨2, ![32768, 8]⟩
abbrev S2048x2048 : Shape := ⟨2, ![2048, 2048]⟩
abbrev S2048x8 : Shape := ⟨2, ![2048, 8]⟩
abbrev S2048 : Shape := ⟨1, ![2048]⟩
abbrev S1x2048 : Shape := ⟨2, ![1, 2048]⟩
abbrev S8x2048 : Shape := ⟨2, ![8, 2048]⟩
abbrev S32768x6 : Shape := ⟨2, ![32768, 6]⟩

abbrev nBuf : Space → Nat
  | .hbm => 6
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S64x2048, .f32⟩
  | .hbm, ⟨2, _⟩ => ⟨S32768x8, .f32⟩
  | .hbm, ⟨3, _⟩ => ⟨S32768x8, .i32⟩
  | .hbm, ⟨4, _⟩ => ⟨S32768x6, .f32⟩
  | .hbm, ⟨5, _⟩ => ⟨S32768x6, .i32⟩
  | .local _ .vmem, ⟨0, _⟩ => ⟨S2048x2048, .f32⟩
  | .local _ .vmem, ⟨1, _⟩ => ⟨S2048x2048, .f32⟩
  | .local _ .vmem, ⟨2, _⟩ => ⟨S64x2048, .f32⟩
  | .local _ .vmem, ⟨3, _⟩ => ⟨S2048x8, .f32⟩
  | .local _ .vmem, ⟨4, _⟩ => ⟨S2048x8, .f32⟩
  | .local _ .vmem, ⟨5, _⟩ => ⟨S2048x8, .i32⟩
  | .local _ .vmem, ⟨6, _⟩ => ⟨S2048x8, .i32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x2048 : Shape := ⟨2, ![32768, 2048]⟩
abbrev S64x2048 : Shape := ⟨2, ![64, 2048]⟩
abbrev S2048x64 : Shape := ⟨2, ![2048, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S32768x6 : Shape := ⟨2, ![32768, 6]⟩
abbrev S32768x6x1 : Shape := ⟨3, ![32768, 6, 1]⟩
abbrev S1 : Shape := ⟨1, ![1]⟩
abbrev S1x1x1 : Shape := ⟨3, ![1, 1, 1]⟩

abbrev nBuf : Space → Nat
  | .hbm => 45
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S64x2048, .f32⟩
  | .hbm, ⟨2, _⟩ => ⟨S2048x64, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768x1, .f32⟩
  | .hbm, ⟨10, _⟩ => ⟨S32768x64, .f32⟩
  | .hbm, ⟨11, _⟩ => ⟨S32768x64, .f32⟩
  | .hbm, ⟨12, _⟩ => ⟨S32768x64, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x64, .f32⟩
  | .hbm, ⟨17, _⟩ => ⟨S32768x64, .f32⟩
  | .hbm, ⟨18, _⟩ => ⟨S32768x6, .f32⟩
  | .hbm, ⟨19, _⟩ => ⟨S32768x6, .i32⟩
  | .hbm, ⟨20, _⟩ => ⟨S_, .i32⟩
  | .hbm, ⟨21, _⟩ => ⟨S32768x6, .i32⟩
  | .hbm, ⟨22, _⟩ => ⟨S32768x6, .i1⟩
  | .hbm, ⟨23, _⟩ => ⟨S_, .i32⟩
  | .hbm, ⟨24, _⟩ => ⟨S32768x6, .i32⟩
  | .hbm, ⟨25, _⟩ => ⟨S32768x6, .i32⟩
  | .hbm, ⟨26, _⟩ => ⟨S32768x6, .i32⟩
  | .hbm, ⟨27, _⟩ => ⟨S32768x6x1, .i32⟩
  | .hbm, ⟨28, _⟩ => ⟨S1, .i32⟩
  | .hbm, ⟨29, _⟩ => ⟨S_, .i32⟩
  | .hbm, ⟨30, _⟩ => ⟨S32768x6x1, .i32⟩
  | .hbm, ⟨31, _⟩ => ⟨S32768x6x1, .i1⟩
  | .hbm, ⟨32, _⟩ => ⟨S1x1x1, .i32⟩
  | .hbm, ⟨33, _⟩ => ⟨S32768x6x1, .i32⟩
  | .hbm, ⟨34, _⟩ => ⟨S32768x6x1, .i1⟩
  | .hbm, ⟨35, _⟩ => ⟨S32768x6x1, .i1⟩
  | .hbm, ⟨36, _⟩ => ⟨S_, .i1⟩
  | .hbm, ⟨37, _⟩ => ⟨S32768x6, .i1⟩
  | .hbm, ⟨38, _⟩ => ⟨S32768x6, .f32⟩
  | .hbm, ⟨39, _⟩ => ⟨S_, .f32⟩
  | .hbm, ⟨40, _⟩ => ⟨S32768x6, .f32⟩
  | .hbm, ⟨41, _⟩ => ⟨S32768x6, .f32⟩
  | .hbm, ⟨42, _⟩ => ⟨S_, .f32⟩
  | .hbm, ⟨43, _⟩ => ⟨S32768x6, .f32⟩
  | .hbm, ⟨44, _⟩ => ⟨S32768x6, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩

abbrev nD : Nat := 1
abbrev τ : Topo := Topo.v7x

variable {F : FTy → Type} [FloatOps F]
-- ==== Proof.Rounds.lean ====
/- Rounds of "take the greatest entry, the first one among equals, and overwrite it by −1", on a column of 64
   extended reals, and the stable sort they agree with. No program is named here. -/
module

public import Idealize.ShloMosaic.PureOps.Ideal
public import Idealize.ShloMosaic.Lib.SortPrefix

@[expose] public section

noncomputable section

namespace Cert.Rounds

open Idealize.ShloMosaic

/-- A column of 64 extended reals: one row's values, one per expert. -/
abbrev Col := Fin 64 → EReal

/-- Some position holds the greatest entry of a column. -/
theorem exists_top (w : Col) : (Finset.univ.filter fun k => ∀ j, w j ≤ w k).Nonempty := by
  obtain ⟨k, hk⟩ := Finite.exists_max w
  exact ⟨k, by simpa using hk⟩

/-- The first position of a column's greatest entry. -/
def top (w : Col) : Fin 64 := (Finset.univ.filter fun k => ∀ j, w j ≤ w k).min' (exists_top w)

/-- No entry exceeds the one at the first position of the greatest. -/
theorem le_top (w : Col) (j : Fin 64) : w j ≤ w (top w) := by
  have h := Finset.min'_mem _ (exists_top w)
  exact (Finset.mem_filter.mp h).2 j

/-- A position whose entry is as great is not earlier. -/
theorem top_le (w : Col) (k : Fin 64) (h : w k = w (top w)) : top w ≤ k :=
  Finset.min'_le _ _ (Finset.mem_filter.mpr ⟨Finset.mem_univ _, fun j => h ▸ le_top w j⟩)

/-- One round: the first greatest entry is overwritten by −1. -/
def mask (w : Col) : Col := fun k => if k = top w then -1 else w k

/-- The column after a number of rounds. -/
def after (p : Col) : Nat → Col
  | 0 => p
  | r + 1 => mask (after p r)

/-- The position a round picks. -/
def pick (p : Col) (r : Nat) : Fin 64 := top (after p r)

/-- After `r` rounds the picked positions hold −1, the others what they held. -/
theorem after_apply (p : Col) (r : Nat) (k : Fin 64) : after p r k = if ∃ s < r, pick p s = k then -1 else p k := by
  induction r with
  | zero => simp [after]
  | succ r ih =>
    show (if k = top (after p r) then (-1 : EReal) else after p r k) = _
    rw [ih]
    by_cases h : k = top (after p r)
    · rw [if_pos h, if_pos ⟨r, Nat.lt_succ_self r, h.symm⟩]
    · rw [if_neg h]
      by_cases h' : ∃ s < r, pick p s = k
      · obtain ⟨s, hs, e⟩ := h'
        rw [if_pos ⟨s, hs, e⟩, if_pos ⟨s, hs.trans (Nat.lt_succ_self r), e⟩]
      · rw [if_neg h', if_neg]
        rintro ⟨s, hs, e⟩
        rcases Nat.lt_succ_iff_lt_or_eq.mp hs with h1 | h1
        · exact h' ⟨s, h1, e⟩
        · subst h1; exact h e.symm

/-- What a position no earlier round picked holds. -/
theorem after_of_new (p : Col) (r : Nat) (k : Fin 64) (h : ∀ s < r, pick p s ≠ k) : after p r k = p k := by
  rw [after_apply, if_neg]
  rintro ⟨s, hs, e⟩
  exact h s hs e

/-- With every entry above −1, a round among the first 64 picks a position no earlier round picked. -/
theorem pick_new (p : Col) (hp : ∀ k, -1 < p k) (r : Nat) (hr : r < 64) (s : Nat) (hs : s < r) : pick p s ≠ pick p r := by
  intro e
  obtain ⟨k, hk⟩ : ∃ k : Fin 64, ∀ s < r, pick p s ≠ k := by
    by_contra hall
    push Not at hall
    have hsub : (Finset.univ : Finset (Fin 64)) ⊆ (Finset.range r).image (pick p) := fun k _ => by
      obtain ⟨s, hs, e⟩ := hall k
      exact Finset.mem_image.mpr ⟨s, Finset.mem_range.mpr hs, e⟩
    have h1 := Finset.card_le_card hsub
    have h2 := (Finset.card_image_le (s := Finset.range r) (f := pick p))
    simp at h1 h2
    omega
  have h1 : after p r (pick p r) = -1 := by rw [after_apply, if_pos ⟨s, hs, e⟩]
  have h2 := le_top (after p r) k
  rw [after_of_new p r k hk] at h2
  exact absurd (hp k) (not_lt.mpr (h2.trans (le_of_eq h1)))

/-- With every entry above −1, the greatest entry a round finds is the column's own entry at the position it picks. -/
theorem after_pick (p : Col) (hp : ∀ k, -1 < p k) (r : Nat) (hr : r < 64) : after p r (pick p r) = p (pick p r) :=
  after_of_new p r _ fun s hs => pick_new p hp r hr s hs

/-- "Greater, or equal and earlier": the order the picks come in. -/
def before (p : Col) (a b : Fin 64) : Bool := decide (p b < p a) || (decide (p a = p b) && decide (a < b))

/-- No position that the earlier rounds left is before the one a round picks. -/
theorem not_before_pick (p : Col) (hp : ∀ k, -1 < p k) (r : Nat) (hr : r < 64) (k : Fin 64)
    (h : ∀ s < r, pick p s ≠ k) : before p k (pick p r) = false := by
  have h1 := le_top (after p r) k
  have h2 : p (pick p r) = after p r (top (after p r)) := (after_pick p hp r hr).symm
  have h3 := after_of_new p r k h
  rw [h3, ← h2] at h1
  unfold before
  rw [decide_eq_false (not_lt.mpr h1), Bool.false_or, Bool.and_eq_false_iff]
  by_cases e : p k = p (pick p r)
  · right
    have : top (after p r) ≤ k := top_le (after p r) k (by rw [h3, e, h2])
    exact decide_eq_false (not_lt.mpr this)
  · left; exact decide_eq_false e

/-- Inserting an entry that precedes a whole list asks only "is the other one greater": a tie broken by position never
    moves it. -/
theorem insert_tie (p : Col) (a : Fin 64) (l : List (Fin 64)) (h : ∀ b ∈ l, a < b) :
    insertBefore (fun k k' => decide (p k' < p k)) a l = insertBefore (before p) a l :=
  insertBefore_congr _ _ a l fun b hb => by
    have : ¬ b < a := not_lt.mpr (h b hb).le
    simp [before, this]

/-- The stable sort of an increasing list, greater first, is its sort by "greater, or equal and earlier". -/
theorem sort_tie (p : Col) (l : List (Fin 64)) (h : l.Pairwise (· < ·)) :
    stableSort (fun k k' => decide (p k' < p k)) l = stableSort (before p) l := by
  induction l with
  | nil => rfl
  | cons a l ih =>
    rw [List.pairwise_cons] at h
    unfold stableSort
    rw [ih h.2]
    exact insert_tie p a _ fun b hb => h.1 b ((perm_stableSort _ l).mem_iff.mp hb)

/-- "Greater, or equal and earlier" is a strict total order on the positions. -/
theorem before_total (p : Col) : StrictTotalBefore (before p) where
  irrefl a := by simp [before]
  trans a b c hab hbc := by
    simp only [before, Bool.or_eq_true, Bool.and_eq_true, decide_eq_true_eq] at hab hbc ⊢
    rcases hab with h | ⟨e, h⟩ <;> rcases hbc with h' | ⟨e', h'⟩
    · exact .inl (h'.trans h)
    · exact .inl (e' ▸ h)
    · exact .inl (e ▸ h')
    · exact .inr ⟨e.trans e', h.trans h'⟩
  total a b hne := by
    simp only [before, Bool.or_eq_true, Bool.and_eq_true, decide_eq_true_eq]
    rcases lt_trichotomy (p a) (p b) with h | h | h
    · exact .inr (.inl h)
    · rcases lt_or_gt_of_ne hne with h' | h'
      · exact .inl (.inr ⟨h, h'⟩)
      · exact .inr (.inr ⟨h.symm, h'⟩)
    · exact .inl (.inl h)

/-- Two orders that list the positions alike have one sorting permutation. -/
theorem sortedFrom_of_positions {n : Nat} (R R' : Fin n → Fin n → Bool) (h : sortPositions n R = sortPositions n R') :
    sortedFrom R = sortedFrom R' := by
  funext k
  unfold sortedFrom
  rw [List.get_of_eq h]
  rfl

/-- The sorting permutations of the two orders agree. -/
theorem sortedFrom_tie (p : Col) : sortedFrom (fun k k' => decide (p k' < p k)) = sortedFrom (before p) :=
  sortedFrom_of_positions _ _ (sort_tie p (List.finRange 64) (List.pairwise_lt_finRange 64))

/-- THE EQUATION OF THE TWO SELECTIONS: with every entry above −1, position `r` of the stable sort, greater first, comes
    from the position that round `r` picks. -/
theorem sortedFrom_eq_pick (p : Col) (hp : ∀ k, -1 < p k) (n : Nat) (hn : n ≤ 64) (i : Fin n) :
    sortedFrom (fun k k' => decide (p k' < p k)) (i.castLE hn) = pick p i.val := by
  rw [sortedFrom_tie]
  refine (before_total p).sortedFrom_eq_of_prefix hn (fun i : Fin n => pick p i.val) ?_ ?_ ?_ i
  · intro a b e
    rcases lt_trichotomy a b with h | h | h
    · exact absurd e (pick_new p hp b.val (b.isLt.trans_le hn) a.val h)
    · exact h
    · exact absurd e.symm (pick_new p hp a.val (a.isLt.trans_le hn) b.val h)
  · intro a b h
    exact not_before_pick p hp a.val (a.isLt.trans_le hn) _ fun s hs => pick_new p hp b.val (b.isLt.trans_le hn) s (hs.trans h)
  · intro a q h
    exact not_before_pick p hp a.val (a.isLt.trans_le hn) q fun s hs => h ⟨s, hs.trans a.isLt⟩

end Cert.Rounds

end
-- ==== Proof.Column.lean ====
/- What the two folds down a column give at the first position of its greatest entry, and the softmax of a column of real
   scores: every probability is above −1. No program is named here. -/
module

public import proofs.«01_k».proof.Proof.Rounds
public import Idealize.ShloMosaic.PureOps.Ideal.Laws
public import Idealize.ShloMosaic.PureOps.Reduce

@[expose] public section

noncomputable section

namespace Cert.Rounds

open Idealize.ShloMosaic

/-- The maximum folded down a column from the least extended real is the entry at the first position of the greatest. -/
theorem fold_max_eq_top (w : Col) : Finset.fold max ⊥ w Finset.univ = w (top w) := by
  refine le_antisymm ?_ ?_
  · exact (Finset.fold_max_le _).mpr ⟨bot_le, fun k _ => le_top w k⟩
  · exact (Finset.le_fold_max _).mpr (.inr ⟨top w, Finset.mem_univ _, le_rfl⟩)

/-- The word of a position below 64, read as a signed number, is the position. -/
theorem toInt_word (k : Fin 64) : (BitVec.ofNat 32 k.val).toInt = k.val := by
  have hk := k.isLt
  rw [BitVec.toInt_eq_toNat_of_lt] <;> rw [BitVec.toNat_ofNat] <;> omega

/-- Signed minimum of words is the minimum of the numbers they are. -/
theorem toInt_minsi (a b : BitVec 32) : (IntOp.minsi a b).toInt = min a.toInt b.toInt := by
  unfold IntOp.minsi
  by_cases h : a.slt b
  · rw [if_pos h]; rw [BitVec.slt_iff_toInt_lt] at h; exact (min_eq_left h.le).symm
  · rw [if_neg h]; rw [BitVec.slt_iff_toInt_lt] at h; exact (min_eq_right (not_lt.mp h)).symm

/-- The signed minimum, folded down a column, of "the position where the entry is the greatest, 64 elsewhere" is the first
    position of the greatest. -/
theorem fold_minsi_eq_top (w : Col) :
    Finset.fold IntOp.minsi 2147483647#32 (fun k => if w k = w (top w) then BitVec.ofNat 32 k.val else 64#32) Finset.univ
      = BitVec.ofNat 32 (top w).val := by
  apply BitVec.eq_of_toInt_eq
  rw [← Finset.fold_hom (op' := min) (m := BitVec.toInt) toInt_minsi, toInt_word]
  have ht := (top w).isLt
  refine le_antisymm ?_ ?_
  · refine (Finset.fold_min_le _).mpr (.inr ⟨top w, Finset.mem_univ _, ?_⟩)
    rw [if_pos rfl, toInt_word]
  · refine (Finset.le_fold_min _).mpr ⟨?_, fun k _ => ?_⟩
    · have : (2147483647#32).toInt = 2147483647 := by decide
      omega
    · by_cases h : w k = w (top w)
      · rw [if_pos h, toInt_word]; exact_mod_cast top_le w k h
      · rw [if_neg h]
        have : (64#32).toInt = 64 := by decide
        omega

/-- A sum of real numbers, taken among the extended reals. -/
theorem coe_sum {n : Nat} (f : Fin n → ℝ) : ((∑ i, f i : ℝ) : EReal) = ∑ i, (f i : EReal) :=
  map_sum (⟨⟨fun x : ℝ => (x : EReal), EReal.coe_zero⟩, EReal.coe_add⟩ : ℝ →+ EReal) f Finset.univ

/-- The softmax of a column of scores: the exponential of each score less the greatest, over their sum. -/
def softmax (s : Col) : Col := fun k =>
  Ideal.div (Ideal.exp (s k - s (top s))) (∑ j, Ideal.exp (s j - s (top s)))

/-- The softmax of a column of real scores is above −1 everywhere: each entry is the quotient of two positive reals. -/
theorem softmax_gt (s : Col) (a : Fin 64 → ℝ) (hs : ∀ k, s k = (a k : EReal)) (k : Fin 64) : -1 < softmax s k := by
  unfold softmax
  have he : ∀ j, Ideal.exp (s j - s (top s)) = ((Real.exp (a j - a (top s)) : ℝ) : EReal) := fun j => by
    rw [hs j, hs (top s), ← EReal.coe_sub]; rfl
  have hsum : (∑ j, Ideal.exp (s j - s (top s))) = ((∑ j, Real.exp (a j - a (top s)) : ℝ) : EReal) := by
    rw [coe_sum]; exact Finset.sum_congr rfl fun j _ => he j
  have hpos : 0 < ∑ j, Real.exp (a j - a (top s)) := Finset.sum_pos (fun j _ => Real.exp_pos _) ⟨k, Finset.mem_univ k⟩
  rw [hsum, he k]
  unfold Ideal.div
  rw [if_neg (by exact_mod_cast hpos.ne')]
  rw [← EReal.coe_inv, ← EReal.coe_mul]
  have : (-1 : ℝ) < Real.exp (a k - a (top s)) * (∑ j, Real.exp (a j - a (top s)))⁻¹ :=
    lt_of_lt_of_le (by norm_num) (mul_pos (Real.exp_pos _) (inv_pos.mpr hpos)).le
  have h := EReal.coe_lt_coe_iff.mpr this
  rwa [EReal.coe_neg, EReal.coe_one] at h

/-- A sum of products of real numbers is a real number. -/
theorem sum_real {n : Nat} (f g : Fin n → EReal) (hf : ∀ i, ∃ a : ℝ, f i = a) (hg : ∀ i, ∃ a : ℝ, g i = a) :
    ∃ a : ℝ, (∑ i, f i * g i) = (a : EReal) := by
  choose a ha using hf
  choose b hb using hg
  refine ⟨∑ i, a i * b i, ?_⟩
  rw [coe_sum]
  exact Finset.sum_congr rfl fun i _ => by rw [ha i, hb i, EReal.coe_mul]

end Cert.Rounds

end
-- ==== Proof.Block.lean ====
/- What one grid point computes from its block of rows and the experts' matrix: the two output blocks, entry by entry. -/
module

public import proofs.«01_k».proof.Proof.Column
public import proofs.«01_k».proof.Proof.Gen.KernelIdeal.Frame
public import Idealize.ShloMosaic.Lib.Pointwise
public import Idealize.ShloMosaic.Lib.Pipeline.Value

@[expose] public section

set_option maxRecDepth 16384

noncomputable section

namespace Cert.Block

open Idealize.ShloMosaic Cert.KernelIdeal Cert.KernelIdeal.Gen Cert.Rounds

/-- One row's column of a block of probabilities: the experts run down the block, the rows along its lanes. -/
def colOf (v : FVec Ideal S64x2048 .f32) (l : Fin 2048) : Col := fun k => v (ix2 k l)

/-- The greatest entry of each column, as one row. -/
def maxRow (v : FVec Ideal S64x2048 .f32) : FVec Ideal S1x2048 .f32 :=
  shapeCast S1x2048 (multiReduction .maximumf [0] S2048 v 0xFF800000#32 reduces_S64x2048_S2048 (.inl rfl) rfl) shapeCasts_S2048_S1x2048

/-- The first position of the greatest entry of each column, as one row of words. -/
def idxRow (v : FVec Ideal S64x2048 .f32) : IVec S1x2048 32 :=
  shapeCast S1x2048 (multiReductionI .minsi [0] S2048
    (select (cmpf .oeq v (broadcastTo S64x2048 (maxRow v) broadcasts_S1x2048_S64x2048)) (iota .tc S64x2048 32 [0] iota_S64x2048_d0_w32)
      (broadcast S64x2048 64#32)) 2147483647#32 reduces_S64x2048_S2048 rfl) shapeCasts_S2048_S1x2048

/-- The block with the first greatest entry of each column overwritten by −1. -/
def next (v : FVec Ideal S64x2048 .f32) : FVec Ideal S64x2048 .f32 :=
  select (cmpi .eq (iota .tc S64x2048 32 [0] iota_S64x2048_d0_w32) (broadcastTo S64x2048 (idxRow v) broadcasts_S1x2048_S64x2048))
    (broadcast S64x2048 (Scalar.ofBits .f32 0xBF800000#32)) v

/-- The pattern of −∞ denotes the least extended real. -/
theorem ofBits_bot : Ideal.ofBits .f32 0xFF800000#32 = ⊥ := by
  simp [Ideal.ofBits, Ideal.ieee]

/-- The pattern of −1 denotes −1. -/
theorem ofBits_neg_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num

/-- The maximum row holds each column's entry at the first position of the greatest. -/
theorem maxRow_apply (v : FVec Ideal S64x2048 .f32) (l : Fin 2048) :
    maxRow v (ix2 0 l) = colOf v l (top (colOf v l)) := by
  rw [← fold_max_eq_top (colOf v l)]
  pointwise [maxRow, ofBits_bot]
  rfl

/-- The index row holds the word of that position. -/
theorem idxRow_apply (v : FVec Ideal S64x2048 .f32) (l : Fin 2048) :
    idxRow v (ix2 0 l) = BitVec.ofNat 32 (top (colOf v l)).val := by
  rw [← fold_minsi_eq_top (colOf v l), ← maxRow_apply]
  pointwise [idxRow]
  rfl

/-- A select by the equality of two positions' words is a select by the equality of the positions. -/
theorem select_words {α : Type} (a b : Fin 64) (x y : α) :
    Scalar.select (IntOp.cmpi .eq (BitVec.ofNat 32 a.val) (BitVec.ofNat 32 b.val)) x y = if a = b then x else y := by
  have ha := a.isLt
  have hb := b.isLt
  have h : (BitVec.ofNat 32 a.val = BitVec.ofNat 32 b.val) ↔ a = b := by
    rw [← BitVec.toNat_inj, BitVec.toNat_ofNat, BitVec.toNat_ofNat, Fin.ext_iff]; omega
  by_cases e : a = b
  · subst e; simp [Scalar.select, IntOp.cmpi]
  · have h' : ¬ BitVec.ofNat 32 a.val = BitVec.ofNat 32 b.val := fun q => e (h.mp q)
    have h2 : (BitVec.ofNat 32 a.val == BitVec.ofNat 32 b.val) = false := beq_eq_false_iff_ne.mpr h'
    simp [Scalar.select, IntOp.cmpi, h2, e]

/-- A column of the next block is one round further. -/
theorem colOf_next (v : FVec Ideal S64x2048 .f32) (l : Fin 2048) : colOf (next v) l = mask (colOf v l) := by
  funext k
  show next v (ix2 k l) = if k = top (colOf v l) then -1 else v (ix2 k l)
  pointwise [next, idxRow_apply, ofBits_neg_one]
  rw [select_words]

/-- The block after a number of rounds. -/
def work (v : FVec Ideal S64x2048 .f32) : Nat → FVec Ideal S64x2048 .f32
  | 0 => v
  | r + 1 => next (work v r)

/-- One more round. -/
theorem work_succ (v : FVec Ideal S64x2048 .f32) (r : Nat) : work v (r + 1) = next (work v r) := rfl

/-- A column of the block after some rounds is the column after as many rounds. -/
theorem colOf_work (v : FVec Ideal S64x2048 .f32) (l : Fin 2048) (r : Nat) : colOf (work v r) l = after (colOf v l) r := by
  induction r with
  | zero => rfl
  | succ r ih => exact (colOf_next _ l).trans (congrArg mask ih)

/-- The score column of one row of a block: its inner products with the experts' rows. -/
def scores (x : FVec Ideal S2048x2048 .f32) (w : FVec Ideal S64x2048 .f32) (l : Fin 2048) : Col :=
  fun k => ∑ i : Fin 2048, x (ix2 l i) * w (ix2 k i)

/-- The block of probabilities holds, down each column, the softmax of that row's scores. -/
theorem probs_apply (x : FVec Ideal S2048x2048 .f32) (w : FVec Ideal S64x2048 .f32) (l : Fin 2048) :
    colOf (k0_pay3 (F := Ideal) x w) l = softmax (scores x w l) := by
  funext k
  show k0_pay3 (F := Ideal) x w (ix2 k l) = _
  have hs (k : Fin 64) : (∑ i, w (ix2 k i) * x (ix2 l i)) = scores x w l k := Finset.sum_congr rfl fun i _ => mul_comm _ _
  pointwise [k0_pay3, hs, ofBits_bot]
  rw [fold_max_eq_top]
  rfl

/-- The mask of the entries that equal their column's greatest. -/
def isTop (v : FVec Ideal S64x2048 .f32) : IVec S64x2048 1 :=
  cmpf .oeq v (broadcastTo S64x2048 (maxRow v) broadcasts_S1x2048_S64x2048)

section Stages

variable (x : FVec Ideal S2048x2048 .f32) (w : FVec Ideal S64x2048 .f32)

/-- The first round's maxima, indices and block are those of the generic round; -/
theorem max0 : k0_pay4 (F := Ideal) x w = maxRow (k0_pay3 (F := Ideal) x w) := rfl
theorem idx0 : k0_pay5 (F := Ideal) x w = idxRow (k0_pay3 (F := Ideal) x w) := rfl
theorem work1 : k0_pay6 (F := Ideal) x w = next (k0_pay3 (F := Ideal) x w) := rfl

/-- so are the second round's; -/
theorem max1 : k0_pay7 (F := Ideal) x w = maxRow (k0_pay6 (F := Ideal) x w) := rfl
theorem idx1 : k0_pay8 (F := Ideal) x w = idxRow (k0_pay6 (F := Ideal) x w) := rfl
theorem work2 : k0_pay9 (F := Ideal) x w = next (k0_pay6 (F := Ideal) x w) := rfl

/-- so are the third's, whose mask is handed on; -/
theorem max2 : k0_pay10 (F := Ideal) x w = maxRow (k0_pay9 (F := Ideal) x w) := rfl
theorem mask2 : k0_pay11 (F := Ideal) x w = isTop (k0_pay9 (F := Ideal) x w) := rfl

variable (v : FVec Ideal S64x2048 .f32)

/-- The iota the rounds compare with. -/
abbrev rows : IVec S64x2048 32 := iota .tc S64x2048 32 [0] iota_S64x2048_d0_w32

theorem idx2 : k0_pay13 rows (isTop v) k0_pay12 = idxRow v := rfl
theorem work3 : k0_pay14 (F := Ideal) rows v (isTop v) k0_pay12 = next v := rfl

/-- and so are the last three rounds'. -/
theorem max3 : k0_pay15 (F := Ideal) rows v (isTop v) k0_pay12 = maxRow (k0_pay14 (F := Ideal) rows v (isTop v) k0_pay12) := rfl
theorem idx3 : k0_pay16 (F := Ideal) rows v (isTop v) k0_pay12 = idxRow (k0_pay14 (F := Ideal) rows v (isTop v) k0_pay12) := rfl
theorem work4 : k0_pay17 (F := Ideal) rows v (isTop v) k0_pay12 = next (k0_pay14 (F := Ideal) rows v (isTop v) k0_pay12) := rfl
theorem max4 : k0_pay18 (F := Ideal) rows v (isTop v) k0_pay12 = maxRow (k0_pay17 (F := Ideal) rows v (isTop v) k0_pay12) := rfl
theorem idx4 : k0_pay19 (F := Ideal) rows v (isTop v) k0_pay12 = idxRow (k0_pay17 (F := Ideal) rows v (isTop v) k0_pay12) := rfl
theorem work5 : k0_pay20 (F := Ideal) rows v (isTop v) k0_pay12 = next (k0_pay17 (F := Ideal) rows v (isTop v) k0_pay12) := rfl
theorem max5 : k0_pay21 (F := Ideal) rows v (isTop v) k0_pay12 = maxRow (k0_pay20 (F := Ideal) rows v (isTop v) k0_pay12) := rfl
theorem idx5 : k0_pay22 (F := Ideal) rows v (isTop v) k0_pay12 = idxRow (k0_pay20 (F := Ideal) rows v (isTop v) k0_pay12) := rfl

/-- The blocks the body keeps are the generic ones after 1, 2, 3, 4, 5 rounds. -/
theorem kept1 : k0_pay6 (F := Ideal) x w = work (k0_pay3 (F := Ideal) x w) 1 := by
  rw [work1, work_succ]; rfl
theorem kept2 : k0_pay9 (F := Ideal) x w = work (k0_pay3 (F := Ideal) x w) 2 := by
  rw [work2, kept1, ← work_succ]
theorem kept3 : k0_pay14 (F := Ideal) rows (k0_pay9 (F := Ideal) x w) (k0_pay11 (F := Ideal) x w) k0_pay12
    = work (k0_pay3 (F := Ideal) x w) 3 := by
  rw [mask2, work3, kept2, ← work_succ]
theorem kept4 : k0_pay17 (F := Ideal) rows (k0_pay9 (F := Ideal) x w) (k0_pay11 (F := Ideal) x w) k0_pay12
    = work (k0_pay3 (F := Ideal) x w) 4 := by
  rw [mask2, work4, ← mask2, kept3, ← work_succ]
theorem kept5 : k0_pay20 (F := Ideal) rows (k0_pay9 (F := Ideal) x w) (k0_pay11 (F := Ideal) x w) k0_pay12
    = work (k0_pay3 (F := Ideal) x w) 5 := by
  rw [mask2, work5, ← mask2, kept4, ← work_succ]

/-- The six rows of maxima the body stores are the generic rounds'; -/
theorem storedMax0 : k0_pay4 (F := Ideal) x w = maxRow (work (k0_pay3 (F := Ideal) x w) 0) := max0 x w
theorem storedMax1 : k0_pay7 (F := Ideal) x w = maxRow (work (k0_pay3 (F := Ideal) x w) 1) := by rw [max1, kept1]
theorem storedMax2 : k0_pay10 (F := Ideal) x w = maxRow (work (k0_pay3 (F := Ideal) x w) 2) := by rw [max2, kept2]
theorem storedMax3 : k0_pay15 (F := Ideal) rows (k0_pay9 (F := Ideal) x w) (k0_pay11 (F := Ideal) x w) k0_pay12
    = maxRow (work (k0_pay3 (F := Ideal) x w) 3) := by rw [mask2, max3, ← mask2, kept3]
theorem storedMax4 : k0_pay18 (F := Ideal) rows (k0_pay9 (F := Ideal) x w) (k0_pay11 (F := Ideal) x w) k0_pay12
    = maxRow (work (k0_pay3 (F := Ideal) x w) 4) := by rw [mask2, max4, ← mask2, kept4]
theorem storedMax5 : k0_pay21 (F := Ideal) rows (k0_pay9 (F := Ideal) x w) (k0_pay11 (F := Ideal) x w) k0_pay12
    = maxRow (work (k0_pay3 (F := Ideal) x w) 5) := by rw [mask2, max5, ← mask2, kept5]

/-- and so are the six rows of indices. -/
theorem storedIdx0 : k0_pay5 (F := Ideal) x w = idxRow (work (k0_pay3 (F := Ideal) x w) 0) := idx0 x w
theorem storedIdx1 : k0_pay8 (F := Ideal) x w = idxRow (work (k0_pay3 (F := Ideal) x w) 1) := by rw [idx1, kept1]
theorem storedIdx2 : k0_pay13 rows (k0_pay11 (F := Ideal) x w) k0_pay12 = idxRow (work (k0_pay3 (F := Ideal) x w) 2) := by
  rw [mask2, idx2, kept2]
theorem storedIdx3 : k0_pay16 (F := Ideal) rows (k0_pay9 (F := Ideal) x w) (k0_pay11 (F := Ideal) x w) k0_pay12
    = idxRow (work (k0_pay3 (F := Ideal) x w) 3) := by rw [mask2, idx3, ← mask2, kept3]
theorem storedIdx4 : k0_pay19 (F := Ideal) rows (k0_pay9 (F := Ideal) x w) (k0_pay11 (F := Ideal) x w) k0_pay12
    = idxRow (work (k0_pay3 (F := Ideal) x w) 4) := by rw [mask2, idx4, ← mask2, kept4]
theorem storedIdx5 : k0_pay22 (F := Ideal) rows (k0_pay9 (F := Ideal) x w) (k0_pay11 (F := Ideal) x w) k0_pay12
    = idxRow (work (k0_pay3 (F := Ideal) x w) 5) := by rw [mask2, idx5, ← mask2, kept5]

end Stages

/-- The zero offsets of a whole-block access. -/
theorem zeros : (![0, 0] : Fin 2 → Nat) = fun _ => 0 := by decide

/-- The weights block: in its first six columns, row `l` holds the greatest entries the rounds on that row's softmax find. -/
theorem weights_apply (x : Vec Ideal S2048x2048 .f32) (w : Vec Ideal S64x2048 .f32) (l : Fin 2048) (r : Fin 8) (hr : r.val < 6) :
    out0_2 (F := Ideal) x w (ix2 l r) = after (softmax (scores x w l)) r.val (pick (softmax (scores x w l)) r.val) := by
  have key (n : Nat) : maxRow (work (k0_pay3 (F := Ideal) x w) n) (ix2 0 l)
      = after (softmax (scores x w l)) n (pick (softmax (scores x w l)) n) := by
    rw [maxRow_apply, colOf_work, probs_apply]; rfl
  rw [← key]
  unfold_out out0_2
  rw [View.canon_unit_zero (S := S2048x8) zeros, View.ld_unit_zero (S := S2048x2048) zeros, View.ld_unit_zero (S := S64x2048) zeros]
  pointwise [k0_pay1, k0_pay24]
  fin_vals r with hk
  all_goals simp only [hk, Nat.reduceSub, Nat.reduceLT, ↓reduceDIte]
  · exact congrFun (storedMax0 x w) _
  · exact congrFun (storedMax1 x w) _
  · exact congrFun (storedMax2 x w) _
  · exact congrFun (storedMax3 x w) _
  · exact congrFun (storedMax4 x w) _
  · exact congrFun (storedMax5 x w) _
  all_goals (exfalso; omega)

/-- The indices block: in its first six columns, row `l` holds the words of the positions the rounds on that row's softmax
    pick. -/
theorem indices_apply (x : Vec Ideal S2048x2048 .f32) (w : Vec Ideal S64x2048 .f32) (l : Fin 2048) (r : Fin 8) (hr : r.val < 6) :
    out0_3 (F := Ideal) x w (ix2 l r) = BitVec.ofNat 32 (pick (softmax (scores x w l)) r.val).val := by
  have key (n : Nat) : idxRow (work (k0_pay3 (F := Ideal) x w) n) (ix2 0 l)
      = BitVec.ofNat 32 (pick (softmax (scores x w l)) n).val := by
    rw [idxRow_apply, colOf_work, probs_apply]; rfl
  rw [← key]
  unfold_out out0_3
  rw [View.canon_unit_zero (S := S2048x8) zeros, View.ld_unit_zero (S := S2048x2048) zeros, View.ld_unit_zero (S := S64x2048) zeros]
  pointwise [k0_pay2]
  fin_vals r with hk
  all_goals simp only [hk, Nat.reduceSub, Nat.reduceLT, ↓reduceDIte]
  · exact congrFun (storedIdx0 x w) _
  · exact congrFun (storedIdx1 x w) _
  · exact congrFun (storedIdx2 x w) _
  · exact congrFun (storedIdx3 x w) _
  · exact congrFun (storedIdx4 x w) _
  · exact congrFun (storedIdx5 x w) _
  all_goals (exfalso; omega)

end Cert.Block

end
-- ==== Proof.Arrays.lean ====
/- What the kernel's two results hold after the run, entry by entry: the blocks put side by side, then cut to six columns. -/
module

public import proofs.«01_k».proof.Proof.Block

@[expose] public section

noncomputable section

namespace Cert.Arrays

open Cert.KernelIdeal Cert.KernelIdeal.Gen Cert.Rounds Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The scores of row `i` of the whole input: its product with each expert's row. -/
def rowScores (x : FVec Ideal S32768x2048 .f32) (w : FVec Ideal S64x2048 .f32) (i : Fin 32768) : Col :=
  fun k => ∑ j : Fin 2048, x (ix2 i j) * w (ix2 k j)

/-- Row `l` of the block at point `t`, as a row of the whole array. -/
def rowAt (t : Fin 16) (l : Fin 2048) : Fin 32768 := ⟨t.val * 2048 + l.val, by omega⟩

/-- The grid has sixteen points. -/
theorem points : cfg0.N = 16 := N_0

/-- A window's block index at point `t`: down the rows, each of the two row-blocked inputs and outputs moves with the point. -/
theorem index_facts : ∀ t : Fin cfg0.N,
    win0_0.index t 0 = t.val ∧ win0_0.index t 1 = 0 ∧ win0_1.index t 0 = 0 ∧ win0_1.index t 1 = 0
      ∧ win0_2.index t 0 = t.val ∧ win0_2.index t 1 = 0 ∧ win0_3.index t 0 = t.val ∧ win0_3.index t 1 = 0 :=
  (by decide +kernel : ∀ t : Fin grid0.N,
    win0_0.index t 0 = t.val ∧ win0_0.index t 1 = 0 ∧ win0_1.index t 0 = 0 ∧ win0_1.index t 1 = 0
      ∧ win0_2.index t 0 = t.val ∧ win0_2.index t 1 = 0 ∧ win0_3.index t 0 = t.val ∧ win0_3.index t 1 = 0)

/-- Two points never write the same block of the weights. -/
theorem disjoint_weights : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    have h0 : win0_2.index t 0 = win0_2.index t' 0 := congrFun h 0
    rwa [(index_facts t).2.2.2.2.1, (index_facts t').2.2.2.2.1] at h0))

/-- Two points never write the same block of the indices. -/
theorem disjoint_indices : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (Fin.ext (by
    have h0 : win0_3.index t 0 = win0_3.index t' 0 := congrFun h 0
    rwa [(index_facts t).2.2.2.2.2.2.1, (index_facts t').2.2.2.2.2.2.1] at h0))

/-- The input block at a point, entry by entry: rows `2048·t …` of the input. -/
theorem block_input (c : Dev nD) (t : Fin cfg0.N) (l : Fin 2048) (j : Fin 2048) :
    iblk m c 0 t (ix2 l j) = m ((c : Thread nD τ).loc main_arg0) (ix2 (rowAt (t.cast points) l) j) := by
  show m ((c : Thread nD τ).loc main_arg0) ((win0_0.rect t).emb (ix2 l j)) = _
  congr 1
  funext a
  refine Fin.ext ((win0_0.rect_emb_val t (ix2 l j) a).trans ?_)
  fin_cases a
  · show win0_0.index t 0 * 2048 + l.val = t.val * 2048 + l.val
    rw [(index_facts t).1]
  · show win0_0.index t 1 * 2048 + j.val = j.val
    rw [(index_facts t).2.1]; omega

/-- The experts' block at a point is the whole matrix. -/
theorem block_experts (c : Dev nD) (t : Fin cfg0.N) (k : Fin 64) (j : Fin 2048) :
    iblk m c 1 t (ix2 k j) = m ((c : Thread nD τ).loc main_arg1) (ix2 k j) := by
  show m ((c : Thread nD τ).loc main_arg1) ((win0_1.rect t).emb (ix2 k j)) = _
  congr 1
  funext a
  refine Fin.ext ((win0_1.rect_emb_val t (ix2 k j) a).trans ?_)
  fin_cases a
  · show win0_1.index t 0 * 64 + k.val = k.val
    rw [(index_facts t).2.2.1]; omega
  · show win0_1.index t 1 * 2048 + j.val = j.val
    rw [(index_facts t).2.2.2.1]; omega

/-- So a block's scores are the whole input's, at the block's rows. -/
theorem block_scores (c : Dev nD) (t : Fin cfg0.N) (l : Fin 2048) :
    Cert.Block.scores (iblk m c 0 t) (iblk m c 1 t) l
      = rowScores (m ((c : Thread nD τ).loc main_arg0)) (m ((c : Thread nD τ).loc main_arg1)) (rowAt (t.cast points) l) := by
  funext k
  unfold Cert.Block.scores rowScores
  exact Finset.sum_congr rfl fun j _ => by rw [block_input, block_experts]

/-- An entry of the weights array after the run is the entry its point's block wrote there. -/
theorem weights_array (c : Dev nD) (t : Fin cfg0.N) (l : Fin 2048) (r : Fin 8) :
    (dats m 0 c).arrAt 2 cfg0.N (ix2 (rowAt (t.cast points) l) r) = out0_2 (iblk m c 0 t) (iblk m c 1 t) (ix2 l r) := by
  have e : ((cfg0.win 2).blk t).view.emb (ix2 l r) = ix2 (rowAt (t.cast points) l) r := by
    funext a
    refine Fin.ext ((win0_2.rect_emb_val t (ix2 l r) a).trans ?_)
    fin_cases a
    · show win0_2.index t 0 * 2048 + l.val = t.val * 2048 + l.val
      rw [(index_facts t).2.2.2.2.1]
    · show win0_2.index t 1 * 8 + r.val = r.val
      rw [(index_facts t).2.2.2.2.2.1]; omega
  rw [← e, (dats m 0 c).arrAt_emb_eq_flushed 2 disjoint_weights t (flush0_2 t) (ix2 l r)]
  show (dats m 0 c).after 2 t (ix2 l r) = _
  rw [after0_2]

/-- An entry of the indices array after the run is the entry its point's block wrote there. -/
theorem indices_array (c : Dev nD) (t : Fin cfg0.N) (l : Fin 2048) (r : Fin 8) :
    (dats m 0 c).arrAt 3 cfg0.N (ix2 (rowAt (t.cast points) l) r) = out0_3 (iblk m c 0 t) (iblk m c 1 t) (ix2 l r) := by
  have e : ((cfg0.win 3).blk t).view.emb (ix2 l r) = ix2 (rowAt (t.cast points) l) r := by
    funext a
    refine Fin.ext ((win0_3.rect_emb_val t (ix2 l r) a).trans ?_)
    fin_cases a
    · show win0_3.index t 0 * 2048 + l.val = t.val * 2048 + l.val
      rw [(index_facts t).2.2.2.2.2.2.1]
    · show win0_3.index t 1 * 8 + r.val = r.val
      rw [(index_facts t).2.2.2.2.2.2.2]; omega
  rw [← e, (dats m 0 c).arrAt_emb_eq_flushed 3 disjoint_indices t (flush0_3 t) (ix2 l r)]
  show (dats m 0 c).after 3 t (ix2 l r) = _
  rw [after0_3]

/-- Every row of the whole array is a row of some point's block. -/
theorem row_split (i : Fin 32768) : ∃ (t : Fin cfg0.N) (l : Fin 2048), rowAt (t.cast points) l = i := by
  refine ⟨(⟨i.val / 2048, by omega⟩ : Fin 16).cast points.symm, ⟨i.val % 2048, by omega⟩, Fin.ext ?_⟩
  show i.val / 2048 * 2048 + i.val % 2048 = i.val
  omega

/-- The weights result: the greatest entry of row `i`'s softmax in each of six rounds. -/
def weights (x : FVec Ideal S32768x2048 .f32) (w : FVec Ideal S64x2048 .f32) : FVec Ideal S32768x6 .f32 := fun i =>
  after (softmax (rowScores x w (i 0))) (i 1).val (pick (softmax (rowScores x w (i 0))) (i 1).val)

/-- The indices result: where that entry stands. -/
def indices (x : FVec Ideal S32768x2048 .f32) (w : FVec Ideal S64x2048 .f32) : IVec S32768x6 32 := fun i =>
  BitVec.ofNat 32 (pick (softmax (rowScores x w (i 0))) (i 1).val).val

/-- The weights array cut to its first six columns. -/
theorem weights_cut (c : Dev nD) :
    extractStridedSlice S32768x6 ![0, 0] ((dats m 0 c).arrAt 2 cfg0.N : Vec Ideal S32768x8 .f32) slices_S32768x8_S32768x6_0_0
      = weights (m ((c : Thread nD τ).loc main_arg0)) (m ((c : Thread nD τ).loc main_arg1)) := by
  funext i
  obtain ⟨i, r, rfl⟩ : ∃ (a : Fin 32768) (b : Fin 6), i = ix2 a b := ⟨i 0, i 1, eq_ix2 i⟩
  obtain ⟨t, l, rfl⟩ := row_split i
  have hr : r.val < 8 := by omega
  pointwise
  refine (weights_array m c t l ⟨r.val, hr⟩).trans ?_
  rw [Cert.Block.weights_apply _ _ l ⟨r.val, hr⟩ r.isLt, block_scores]
  rfl

/-- The indices array cut to its first six columns. -/
theorem indices_cut (c : Dev nD) :
    extractStridedSlice S32768x6 ![0, 0] ((dats m 0 c).arrAt 3 cfg0.N : Vec Ideal S32768x8 .i32) slices_S32768x8_S32768x6_0_0
      = indices (m ((c : Thread nD τ).loc main_arg0)) (m ((c : Thread nD τ).loc main_arg1)) := by
  funext i
  obtain ⟨i, r, rfl⟩ : ∃ (a : Fin 32768) (b : Fin 6), i = ix2 a b := ⟨i 0, i 1, eq_ix2 i⟩
  obtain ⟨t, l, rfl⟩ := row_split i
  have hr : r.val < 8 := by omega
  pointwise
  refine (indices_array m c t l ⟨r.val, hr⟩).trans ?_
  rw [Cert.Block.indices_apply _ _ l ⟨r.val, hr⟩ r.isLt, block_scores]
  rfl

/-- The run: the two results at these values, the arguments as they were. -/
theorem run : θ_run defs (onTc (τ := τ) (main (F := Ideal))) ⟨m, fun _ => 0, ρ⟩ fun r => ∀ c : Dev nD,
      r.2.mem ((c : Thread nD τ).loc main_v1) = weights (m ((c : Thread nD τ).loc main_arg0)) (m ((c : Thread nD τ).loc main_arg1))
      ∧ r.2.mem ((c : Thread nD τ).loc main_v2) = indices (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ?_, ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)
  · refine ((h c).2 main_v1 (by decide)).trans (Eq.trans ?_ (weights_cut m c))
    unfold Pipeline.afterTail₀
    simp only [hostOps1, List.flatten_cons, List.flatten_nil, List.append_nil]
    after_results
    exact congrArg (fun v : Vec Ideal S32768x8 .f32 => extractStridedSlice S32768x6 ![0, 0] v slices_S32768x8_S32768x6_0_0)
      (Pipeline.withArrays_arr spec0 winFacts0.arr_inj c _ _ 2)
  · refine ((h c).2 main_v2 (by decide)).trans (Eq.trans ?_ (indices_cut m c))
    unfold Pipeline.afterTail₀
    simp only [hostOps1, List.flatten_cons, List.flatten_nil, List.append_nil]
    after_results
    exact congrArg (fun v : Vec Ideal S32768x8 .i32 => extractStridedSlice S32768x6 ![0, 0] v slices_S32768x8_S32768x6_0_0)
      (Pipeline.withArrays_arr spec0 winFacts0.arr_inj c _ _ 3)

end Cert.Arrays

end
-- ==== Proof.Finite.lean ====
/- What the precondition says of the two arguments: every entry is a real number, so every score is one. -/
module

public import proofs.«01_k».proof.Proof.Arrays
public import proofs.«01_k».proof.Proof.Gen.Pre_finite_inputs
public import Idealize.ShloMosaic.Lib.ReduceAll

@[expose] public section

noncomputable section

namespace Cert.Finite

open Idealize.ShloMosaic Cert.Rounds

/-- An extended real whose absolute value is below +∞ is a real number. -/
theorem real_of_abs (a : EReal) (h : Ideal.cmp .olt (max a (-a)) (Ideal.ofBits .f32 0x7F800000#32) = 1#1) : ∃ r : ℝ, a = (r : EReal) := by
  have top : Ideal.ofBits .f32 0x7F800000#32 = ⊤ := by simp [Ideal.ofBits, Ideal.ieee]
  rw [top] at h
  induction a with
  | bot => simp [Ideal.cmp] at h
  | top => simp [Ideal.cmp] at h
  | coe r => exact ⟨r, rfl⟩

instance : Subsingleton Cert.Pre_finite_inputs.S_.Idx := ⟨fun _ _ => funext fun a => a.elim0⟩

/-- Where the precondition holds, every entry of the input and of the experts' matrix is a real number. -/
theorem reals (x : FVec Ideal Cert.Pre_finite_inputs.S32768x2048 .f32) (w : FVec Ideal Cert.Pre_finite_inputs.S64x2048 .f32)
    [Cert.Pre_finite_inputs.Facts] (h : Cert.Pre_finite_inputs.fn x w = fun _ => 1#1) :
    (∀ i, ∃ r : ℝ, x i = (r : EReal)) ∧ ∀ i, ∃ r : ℝ, w i = (r : EReal) := by
  have h0 := congrFun h (fun a => a.elim0)
  obtain ⟨hx, hw⟩ := IntOp.andi_eq_one.mp h0
  exact ⟨fun i => real_of_abs _ (Host.reduce_andi_all _ _ _ _ _ hx i), fun i => real_of_abs _ (Host.reduce_andi_all _ _ _ _ _ hw i)⟩

/-- So every row's scores are real numbers. -/
theorem scores_real (x : FVec Ideal Cert.KernelIdeal.S32768x2048 .f32) (w : FVec Ideal Cert.KernelIdeal.S64x2048 .f32)
    (hx : ∀ i, ∃ r : ℝ, x i = (r : EReal)) (hw : ∀ i, ∃ r : ℝ, w i = (r : EReal)) (i : Fin 32768) :
    ∃ a : Fin 64 → ℝ, ∀ k, Cert.Arrays.rowScores x w i k = (a k : EReal) := by
  choose a ha using fun k : Fin 64 => sum_real (fun j : Fin 2048 => x (ix2 i j)) (fun j => w (ix2 k j)) (fun _ => hx _) (fun _ => hw _)
  exact ⟨a, ha⟩

end Cert.Finite

end
-- ==== Proof.Softmax.lean ====
/- The reference's probabilities, entry by entry: the softmax of each row's scores. -/
module

public import proofs.«01_k».proof.Proof.Arrays
public import proofs.«01_k».proof.Proof.Gen.ReferenceIdeal.Read
public import Idealize.ShloMosaic.Lib.Pointwise

@[expose] public section

noncomputable section

namespace Cert.Reference

open Idealize.ShloMosaic Cert.ReferenceIdeal Cert.ReferenceIdeal.Read Cert.Rounds Cert.Arrays

/-- The reference's probabilities, at row `i` and expert `k`: the softmax of that row's scores. -/
theorem probs_apply (x : FVec Ideal S32768x2048 .f32) (w : FVec Ideal S64x2048 .f32) (i : Fin 32768) (k : Fin 64) :
    val_main_v12 (F := Ideal) x w (ix2 i k) = softmax (rowScores x w i) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rw [Cert.Block.ofBits_bot, fold_max_eq_top (fun n => ∑ j, x (ix2 i j) * w (ix2 n j)), max_eq_right bot_le]
  rfl

end Cert.Reference

end
-- ==== Proof.Reference.lean ====
/- What the reference computes, entry by entry: where the six greatest entries of each row's softmax stand, and the entries
   there; and so that its two results are the kernel's. -/
module

public import proofs.«01_k».proof.Proof.Softmax
public import Idealize.ShloMosaic.Lib.ReduceAll
public import Idealize.ShloMosaic.Lib.IdealHost

@[expose] public section

set_option maxRecDepth 16384

noncomputable section

namespace Cert.Reference

open Idealize.ShloMosaic Cert.ReferenceIdeal Cert.ReferenceIdeal.Read Cert.Rounds Cert.Arrays

/-- The total order's strict comparison on extended reals, as a truth value. -/
theorem greater (a b : EReal) : (FloatOps.cmpfTotal (F := Ideal) (φ := .f32) .gt a b == 1#1) = decide (b < a) := by
  show (Ideal.cmp .ogt a b == 1#1) = decide (b < a)
  by_cases h : b < a <;> simp [Ideal.cmp, h]

/-- Where the reference's stable choice of the greatest puts position `r`: the sort's expert there. -/
theorem topK_apply (p : FVec Ideal S32768x64 .f32) (h : S32768x64.Slices (fun _ => 0) S32768x6) (i : Fin 32768) (r : Fin 6) :
    (Host.topK S32768x6 1 (FloatOps.cmpfTotal .gt) p h).2 (ix2 i r)
      = BitVec.ofNat 32 (sortedFrom (fun k k' : Fin 64 => decide (p (ix2 i k') < p (ix2 i k))) (r.castLE (by omega : 6 ≤ 64))).val := by
  have along (l : Fin 64) (k : Fin 64) : (ix2 i l : S32768x64.Idx).along 1 k = ix2 i k := by
    funext a; fin_cases a <;> rfl
  have order (l : Fin 64) : (fun k k' : Fin 64 => decide (p ((ix2 i l : S32768x64.Idx).along 1 k') < p ((ix2 i l : S32768x64.Idx).along 1 k)))
      = fun k k' : Fin 64 => decide (p (ix2 i k') < p (ix2 i k)) := by
    funext k k'; rw [along, along]
  have coord (l q : Fin 64) : ((ix2 i l : S32768x64.Idx).along 1 q 1).val = q.val := by rw [along]; rfl
  pointwise [Host.topK, Host.sort2]
  simp only [greater]
  exact congrArg (BitVec.ofNat 32) ((coord (r.castLE (by omega)) _).trans
    (congrArg (fun f : Fin 64 → Fin 64 → Bool => (sortedFrom f (r.castLE (by omega))).val) (order (r.castLE (by omega)))))

/-- The lookup along a row: entry `(i, r)` is the table's row `i` at the position its index word names, clamped into the row. -/
theorem gather_apply (p : FVec Ideal S32768x64 .f32) (idx : IVec S32768x6x1 32) (i : Fin 32768) (r : Fin 6) :
    Host.gather gather_S32768x64_S32768x6x1_S32768x6_n_1_0_0_1_2_11 p idx (ix2 i r)
      = p (ix2 i ⟨min (idx (ix3 i r 0)).toInt.toNat 63, by omega⟩) := by
  let d := gather_S32768x64_S32768x6x1_S32768x6_n_1_0_0_1_2_11
  have where0 (c : Fin d.startIndexMap.length) : d.siIdx (ix2 i r) c = ix3 i r 0 := by
    funext b
    refine Fin.ext ?_
    fin_cases b
    · rfl
    · rfl
    · exact Nat.lt_one_iff.mp c.isLt
  have row : d.start (ix2 i r) idx 0 + d.batchCoord (ix2 i r) 0 + d.offCoord (ix2 i r) 0 = i.val := by
    have hb : (0 : Fin 2) ∈ d.operandBatchingDims := List.mem_singleton.mpr rfl
    rw [d.start_batching _ _ _ hb, d.offCoord_eq_zero _ _ fun hk => ((d.mem_sKept _).mp hk).2 hb, Nat.zero_add, Nat.add_zero]
    unfold GatherDims.batchCoord
    rw [dif_pos hb]
    rfl
  have col : d.start (ix2 i r) idx 1 + d.batchCoord (ix2 i r) 1 + d.offCoord (ix2 i r) 1 = min (idx (ix3 i r 0)).toInt.toNat 63 := by
    have hc : (1 : Fin 2) ∈ d.collapsedSliceDims := List.mem_singleton.mpr rfl
    have hs : (1 : Fin 2) ∈ d.startIndexMap := List.mem_singleton.mpr rfl
    have hb : (1 : Fin 2) ∉ d.operandBatchingDims := fun hb => absurd (List.mem_singleton.mp hb) (by decide)
    rw [d.batchCoord_eq_zero _ _ hb, d.offCoord_eq_zero _ _ fun hk => ((d.mem_sKept _).mp hk).1 hc, Nat.add_zero]
    unfold GatherDims.start
    rw [dif_pos hs, where0]
    rfl
  unfold Host.gather
  congr 1
  funext a
  refine Fin.ext ?_
  fin_cases a
  · exact row
  · exact col

variable (x : FVec Ideal S32768x2048 .f32) (w : FVec Ideal S64x2048 .f32)

/-- Where the scores are real numbers, the reference's indices are the rounds'. -/
theorem indices_apply (hs : ∀ i, ∃ a : Fin 64 → ℝ, ∀ k, rowScores x w i k = (a k : EReal)) (i : Fin 32768) (r : Fin 6) :
    val_main_indices (F := Ideal) x w (ix2 i r) = BitVec.ofNat 32 (pick (softmax (rowScores x w i)) r.val).val := by
  obtain ⟨a, ha⟩ := hs i
  unfold val_main_indices
  rw [topK_apply]
  simp only [probs_apply]
  exact congrArg (fun q : Fin 64 => BitVec.ofNat 32 q.val)
    (sortedFrom_eq_pick (softmax (rowScores x w i)) (softmax_gt _ a ha) 6 (by omega) r)

/-- A position among 64, as a word: not negative, at most 63, and itself again when read back. -/
theorem word_facts : ∀ q : Fin 64, IntOp.cmpi .slt (BitVec.ofNat 32 q.val) 0#32 = 0#1 ∧ IntOp.cmpi .sge (BitVec.ofNat 32 q.val) 0#32 = 1#1
    ∧ IntOp.cmpi .sle (BitVec.ofNat 32 q.val) 63#32 = 1#1 ∧ min (BitVec.ofNat 32 q.val).toInt.toNat 63 = q.val := by decide

/-- The lookup's positions are the indices: none is negative, so none is wrapped round. -/
theorem positions_apply (hs : ∀ i, ∃ a : Fin 64 → ℝ, ∀ k, rowScores x w i k = (a k : EReal)) (i : Fin 32768) (r : Fin 6) (z : Fin 1) :
    val_main_call0_v5 (F := Ideal) x w (ix3 i r z) = BitVec.ofNat 32 (pick (softmax (rowScores x w i)) r.val).val := by
  have e : idx_main_call0_v5 (ix3 i r z) = ix2 i r := by
    funext a
    refine Fin.ext ?_
    fin_cases a
    · show ((i.val * 6 + r.val) * 1 + z.val) / 6 = i.val
      omega
    · show ((i.val * 6 + r.val) * 1 + z.val) % 6 = r.val
      omega
  rw [val_main_call0_v5_apply, e, val_main_call0_v4_apply, val_main_call0_v1_apply, val_main_call0_v0_apply, val_main_call0_c_apply,
    indices_apply x w hs, (word_facts _).1]
  rfl

/-- Every position is in range, so the lookup's mask is set everywhere. -/
theorem mask_apply (hs : ∀ i, ∃ a : Fin 64 → ℝ, ∀ k, rowScores x w i k = (a k : EReal)) (j : S32768x6.Idx) :
    val_main_call0_v12 (F := Ideal) x w j = 1#1 := by
  unfold val_main_call0_v12
  refine Host.reduce_andi_one _ _ _ _ _ rfl (fun k => ?_)
  obtain ⟨i, r, z, rfl⟩ : ∃ (i : Fin 32768) (r : Fin 6) (z : Fin 1), k = ix3 i r z := ⟨k 0, k 1, k 2, eq_ix3 k⟩
  rw [val_main_call0_v11_apply, val_main_call0_v7_apply, val_main_call0_v10_apply, val_main_call0_v6_apply, val_main_call0_c_2_apply,
    val_main_call0_v9_apply, val_main_call0_v8_apply, val_main_call0_c_1_apply, positions_apply x w hs, (word_facts _).2.1, (word_facts _).2.2.1]
  rfl

/-- Where the scores are real numbers, the reference's weights are the softmax at the rounds' positions. -/
theorem weights_apply (hs : ∀ i, ∃ a : Fin 64 → ℝ, ∀ k, rowScores x w i k = (a k : EReal)) (i : Fin 32768) (r : Fin 6) :
    val_main_v15 (F := Ideal) x w (ix2 i r) = softmax (rowScores x w i) (pick (softmax (rowScores x w i)) r.val) := by
  have one : FloatOps.ofBits (F := Ideal) .f32 0x3F800000#32 = (1 : EReal) := Ideal.ofBits_one_f32
  rw [val_main_v15_apply, val_main_v13_apply, val_main_v14_apply, val_main_cst_2_apply, mask_apply x w hs, one]
  show val_main_call0_v13 (F := Ideal) x w (ix2 i r) * 1 = _
  rw [mul_one]
  unfold val_main_call0_v13
  rw [gather_apply, probs_apply]
  refine congrArg (softmax (rowScores x w i)) (Fin.ext ?_)
  show min (val_main_call0_v5 (F := Ideal) x w (ix3 i r 0)).toInt.toNat 63 = _
  rw [positions_apply x w hs]
  exact (word_facts _).2.2.2

/-- The reference's two results are the kernel's, as whole arrays, where the scores are real numbers. -/
theorem results_eq (hs : ∀ i, ∃ a : Fin 64 → ℝ, ∀ k, rowScores x w i k = (a k : EReal)) :
    val_main_v15 (F := Ideal) x w = weights x w ∧ val_main_indices (F := Ideal) x w = indices x w := by
  constructor
  · funext j
    obtain ⟨i, r, rfl⟩ : ∃ (i : Fin 32768) (r : Fin 6), j = ix2 i r := ⟨j 0, j 1, eq_ix2 j⟩
    obtain ⟨a, ha⟩ := hs i
    exact (weights_apply x w hs i r).trans (after_pick _ (softmax_gt _ a ha) r.val (by omega)).symm
  · funext j
    obtain ⟨i, r, rfl⟩ : ∃ (i : Fin 32768) (r : Fin 6), j = ix2 i r := ⟨j 0, j 1, eq_ix2 j⟩
    exact indices_apply x w hs i r

end Cert.Reference

end
-- ==== Proof.lean ====
/- The claims, assembled: the frames, and that on finite arguments the kernel's two results are the reference's. The
   mathematics is in the modules of Proof/: Rounds (six rounds of taking the first greatest entry are a stable sort),
   Column (one row's softmax), Block (what one grid point computes), Arrays (what the results hold), Softmax and Reference
   (what the reference computes), Finite (what the precondition gives). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite_inputs
public import proofs.«01_k».proof.Proof.Gen.ReferenceIdeal
public import proofs.«01_k».proof.Proof.Finite
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The reference's program has no semaphore, so every counter is zero whatever it does. -/
theorem reference_counters (f : GSem Cert.ReferenceIdeal.nD Cert.ReferenceIdeal.τ Cert.ReferenceIdeal.sig → Int) : f = fun _ => 0 :=
  funext fun g => match g with
    | (_, .reg s) => absurd s.isLt (Nat.not_lt_zero _)
    | (_, .dma s) => absurd s.isLt (Nat.not_lt_zero _)

/-- The reference runs, its arguments end unchanged, and every counter is at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run _ _ _).mono (fun _ h => ⟨fun c => (h c).2.2, reference_counters _⟩) (Cert.ReferenceIdeal.Value.run m g)

/-- On finite arguments the kernel and the reference end with the same weights and the same indices, on every row. -/
theorem same_results : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hargs
  refine ⟨fun c => Cert.Arrays.weights (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Arrays.indices (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Arrays.run m g, (θ_run _ _ _).mono (fun r h c => ?_) (Cert.ReferenceIdeal.Value.run m' g')⟩
  obtain ⟨hw, hi, h0, h1⟩ := h c
  obtain ⟨e0, e1⟩ := hargs c
  obtain ⟨rx, rw⟩ := Cert.Finite.reals _ _ (hpre c)
  obtain ⟨eqw, eqi⟩ := Cert.Reference.results_eq _ _ (Cert.Finite.scores_real _ _ rx rw)
  refine ⟨(hw.trans (Cert.ReferenceIdeal.Read.val_main_v15_eq m' c)).trans ?_,
    (hi.trans (Cert.ReferenceIdeal.Read.val_main_indices_eq _ _)).trans ?_, h0, h1⟩
  · rw [e0, e1]; exact eqw
  · rw [e0, e1]; exact eqi

/-- All the claims together. -/
theorem claim : Cert.Claim :=
  ⟨Cert.Kernel.Gen.facts, Cert.KernelIdeal.Gen.facts, Cert.ReferenceIdeal.Gen.facts, Cert.Pre_finite_inputs.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, same_results⟩

end Cert.Proof

end
